-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x2048 : Shape := ⟨3, ![4, 2048, 2048]⟩
abbrev S4x2x12x2048 : Shape := ⟨4, ![4, 2, 12, 2048]⟩
abbrev S4x24x2048 : Shape := ⟨3, ![4, 24, 2048]⟩
abbrev S1x24x2048 : Shape := ⟨3, ![1, 24, 2048]⟩
abbrev S1x2048x1024 : Shape := ⟨3, ![1, 2048, 1024]⟩
abbrev S1x24x1024 : Shape := ⟨3, ![1, 24, 1024]⟩
abbrev S24x2048 : Shape := ⟨2, ![24, 2048]⟩
abbrev S2048x1024 : Shape := ⟨2, ![2048, 1024]⟩
abbrev S24x1024 : Shape := ⟨2, ![24, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S4x2x12x2048, .f32⟩
  | .hbm, ⟨2, _⟩ => ⟨S4x24x2048, .f32⟩
  | .hbm, ⟨3, _⟩ => ⟨S4x24x2048, .bf16⟩
  | .hbm, ⟨4, _⟩ => ⟨S4x2048x2048, .bf16⟩
  | .hbm, ⟨5, _⟩ => ⟨S4x24x2048, .f32⟩
  | .hbm, ⟨6, _⟩ => ⟨S4x2x12x2048, .f32⟩
  | .local _ .vmem, ⟨0, _⟩ => ⟨S1x24x2048, .bf16⟩
  | .local _ .vmem, ⟨1, _⟩ => ⟨S1x24x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x24x1024, .f32⟩
  | .local _ .vmem, ⟨5, _⟩ => ⟨S1x24x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x24x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x24x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x2048x2048 : Shape := ⟨3, ![4, 2048, 2048]⟩
abbrev S4x2x12x2048 : Shape := ⟨4, ![4, 2, 12, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2x12x2048, .f32⟩
  | .hbm, ⟨2, _⟩ => ⟨S4x2x12x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Block.lean ====
/-
  Hand-written, untrusted. WHAT ONE GRID POINT COMPUTES: the staging buffer of the result after the body holds, over the
  extended reals, the product of the staged rows (24 channel-feature rows over 2048 source nodes) and the staged 1024
  columns of the node matrix.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof.Mix

open Idealize.ShloMosaic Idealize.SL.Sem Cert.KernelIdeal Cert.KernelIdeal.Gen

/-- The body's stored value at row `r` and column `j` of its block: the sum over the 2048 source nodes of the staged row's
    entry times the staged column's entry. -/
theorem block_apply (x : Vec Ideal S1x24x2048 .bf16) (y : Vec Ideal S1x2048x1024 .bf16) (r : Fin 24) (j : Fin 1024) :
    (k0_pay1 x y (ix3 (0 : Fin 1) r j) : EReal)
      = ∑ k : Fin 2048, (x (ix3 (0 : Fin 1) r k) * y (ix3 (0 : Fin 1) k j) : EReal) := by
  pointwise [k0_pay1]

end Cert.Proof.Mix

end
-- ==== Proof.Array.lean ====
/-
  Hand-written, untrusted. WHAT THE RESULT ARRAY HOLDS AFTER THE RUN. The grid's eight points (four samples, two halves of
  the columns) each write one block; the blocks tile the array; each is its block of ONE function of the two arguments,
  `product`. The reshape that follows the region then splits the row axis into channel and feature.
-/
module

public import proofs.«01_k».proof.Proof.Block
public import Idealize.ShloMosaic.Lib.StableHlo.ReadAt
public import Idealize.ShloMosaic.Lib.StableHlo.Run

@[expose] public section

set_option maxRecDepth 16384

noncomputable section

namespace Cert.Proof.Mix

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- The whole product, with channel and feature merged into one row axis: row `r` is channel `r / 12`, feature `r % 12`. -/
def product (Y : FVec Ideal S4x2048x2048 .f32) (x : FVec Ideal S4x2x12x2048 .f32) : FVec Ideal S4x24x2048 .f32 := fun i =>
  (∑ k : Fin 2048, (x (ix4 (i 0) (⟨(i 1).val / 12, by have := (i 1).isLt; change _ < 24 at this; omega⟩ : Fin 2)
      (⟨(i 1).val % 12, Nat.mod_lt _ (by decide)⟩ : Fin 12) k) * Y (ix3 (i 0) k (i 2)) : EReal) : EReal)

/-- Where each window stands at a grid point: the rows' window at sample `p / 2`, the other two at sample `p / 2` and half
    `p % 2` of the columns. -/
theorem index_at : ∀ t : Fin cfg0.N, win0_0.index t = ![t.val / 2, 0, 0] ∧ win0_1.index t = ![t.val / 2, 0, t.val % 2]
    ∧ win0_2.index t = ![t.val / 2, 0, t.val % 2] :=
  (by decide +kernel : ∀ t : Fin grid0.N, win0_0.index t = ![t.val / 2, 0, 0] ∧ win0_1.index t = ![t.val / 2, 0, t.val % 2]
    ∧ win0_2.index t = ![t.val / 2, 0, t.val % 2])

/-- The rows that the region finds: the second argument, reshaped (its cast to a narrower format is the identity here). -/
theorem rows_entry (c : Dev nD) (b : Fin 4) (r : Fin 24) (k : Fin 2048) :
    (V m c main_v1 (ix3 b r k) : EReal)
      = m ((c : Thread nD τ).loc main_arg1) (ix4 b (⟨r.val / 12, by omega⟩ : Fin 2) (⟨r.val % 12, Nat.mod_lt _ (by decide)⟩ : Fin 12) k) := by
  unfold V
  after_reads_at

/-- The matrix that the region finds: the first argument. -/
theorem matrix_entry (c : Dev nD) (b : Fin 4) (k n : Fin 2048) :
    (V m c main_v2 (ix3 b k n) : EReal) = m ((c : Thread nD τ).loc main_arg0) (ix3 b k n) := by
  unfold V
  after_reads_at

/-- Point `t`'s staged rows: sample `t / 2` of the second argument, its 24 channel-feature rows whole. -/
theorem rows_block (c : Dev nD) (t : Fin cfg0.N) (r : Fin 24) (k : Fin 2048) (b : Fin 4) (hb : b.val = t.val / 2) :
    (iblk m c 0 t (ix3 (0 : Fin 1) r k) : EReal)
      = m ((c : Thread nD τ).loc main_arg1) (ix4 b (⟨r.val / 12, by omega⟩ : Fin 2) (⟨r.val % 12, Nat.mod_lt _ (by decide)⟩ : Fin 12) k) := by
  obtain ⟨e0, -, -⟩ := index_at t
  rw [← rows_entry m c b r k]
  blk_ext [iblk, e0]

/-- Point `t`'s staged columns: half `t % 2` of the columns of sample `t / 2`'s matrix. -/
theorem columns_block (c : Dev nD) (t : Fin cfg0.N) (k : Fin 2048) (j : Fin 1024) (b : Fin 4) (n : Fin 2048)
    (hb : b.val = t.val / 2) (hn : n.val = t.val % 2 * 1024 + j.val) :
    (iblk m c 1 t (ix3 (0 : Fin 1) k j) : EReal) = m ((c : Thread nD τ).loc main_arg0) (ix3 b k n) := by
  obtain ⟨-, e1, -⟩ := index_at t
  rw [← matrix_entry m c b k n]
  blk_ext [iblk, e1]

/-- What point `t` stores at row `r`, column `j` of its block is the product at the place of the array where the block
    puts it. -/
theorem point_apply (c : Dev nD) (t : Fin cfg0.N) (y : S1x24x1024.Idx) (i : S4x24x2048.Idx) (h0 : (i 0).val = t.val / 2)
    (h1 : (i 1).val = (y 1).val) (h2 : (i 2).val = t.val % 2 * 1024 + (y 2).val) :
    k0_pay1 (iblk m c 0 t) (iblk m c 1 t) y
      = product (m ((c : Thread nD τ).loc main_arg0)) (m ((c : Thread nD τ).loc main_arg1)) i := by
  idx_vars y
  idx_vars i
  obtain rfl : i1 = y1 := Fin.ext h1
  obtain rfl : y0 = 0 := Subsingleton.elim _ _
  refine (block_apply _ _ i1 y2).trans (Finset.sum_congr rfl fun k _ => ?_)
  rw [rows_block m c t i1 k i0 h0, columns_block m c t k y2 i0 i2 h0 h2]
  rfl

/-- THE ARRAY AFTER THE RUN is the whole product. -/
theorem array_eq (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨e0, e1, e2⟩ := index_at t
  blk_simp
  rw [after0_2]
  frame_out
  refine point_apply m c t y _ ?_ ?_ ?_
  all_goals blk_simp [e2]

/-- Splitting the row axis into channel and feature: the product at channel `a`, feature `f` is the sum over the source
    nodes of `x[b, a, f, k]` times `Y[b, k, n]`. -/
theorem product_split_apply (Y : FVec Ideal S4x2048x2048 .f32) (x : FVec Ideal S4x2x12x2048 .f32)
    (b : Fin 4) (a : Fin 2) (f : Fin 12) (n : Fin 2048) :
    (shapeCast S4x2x12x2048 (product Y x) shapeCasts_S4x24x2048_S4x2x12x2048 (ix4 b a f n) : EReal)
      = ∑ k : Fin 2048, (x (ix4 b a f k) * Y (ix3 b k n) : EReal) := by
  have hf := f.isLt
  have ha : ∀ h, (⟨(a.val * 12 + f.val) / 12, h⟩ : Fin 2) = a := fun _ => Fin.ext (by show (a.val * 12 + f.val) / 12 = a.val; omega)
  have hb : ∀ h, (⟨(a.val * 12 + f.val) % 12, h⟩ : Fin 12) = f := fun _ => Fin.ext (by show (a.val * 12 + f.val) % 12 = f.val; omega)
  pointwise [product]
  simp only [ha, hb]

/-- The lines after the region leave in the result buffer the array reshaped. -/
theorem tail_eq (c : Dev nD) : Pipeline.afterTail₀ cfgs (dats m) 0 (V0 m) [hostOps1] c main_v4
    = shapeCast S4x2x12x2048 (product (m ((c : Thread nD τ).loc main_arg0)) (m ((c : Thread nD τ).loc main_arg1)))
        shapeCasts_S4x24x2048_S4x2x12x2048 := by
  have h := Pipeline.withArrays_arr (cfgs 0).spec launch0.win.arr_inj c (V0 m c) (fun w => (dats m 0 c).arrAt w (cfgs 0).N) 2
  rw [← array_eq m c]
  unfold Pipeline.afterTail₀
  refine Eq.trans ?_ (congrArg (fun A => shapeCast S4x2x12x2048 A shapeCasts_S4x24x2048_S4x2x12x2048) h)
  generalize Pipeline.withArrays _ _ _ _ = W
  after_results
  rfl

/-- THE RUN: the result buffer ends holding the reshaped product of the arguments, and the arguments end unchanged. -/
theorem run : θ_run defs (onTc (τ := τ) (main (F := Ideal))) ⟨m, fun _ => 0, ρ⟩ (fun r => ∀ c : Dev nD,
    r.2.mem ((c.tc : Thread nD τ).loc main_v4)
      = shapeCast S4x2x12x2048 (product (m ((c.tc : Thread nD τ).loc main_arg0)) (m ((c.tc : Thread nD τ).loc main_arg1)))
        shapeCasts_S4x24x2048_S4x2x12x2048
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Proof.Mix

end
-- ==== Proof.RefValue.lean ====
/-
  Hand-written, untrusted. WHAT THE REFERENCE COMPUTES: its one `dot_general`, batched over the four samples and contracting
  the source nodes, read at an index.
-/
module

public import proofs.«01_k».proof.Proof.Gen.ReferenceIdeal
public import Idealize.ShloMosaic.Lib.Pointwise

@[expose] public section

set_option maxRecDepth 16384

noncomputable section

namespace Cert.Proof.Mix

open Idealize.ShloMosaic Idealize.SL.Sem Cert.ReferenceIdeal Cert.ReferenceIdeal.Gen

/-- The reference's product at sample `b`, channel `c`, feature `f` and node `n`: the sum over the source nodes `k` of
    `x[b, c, f, k]` times `Y[b, k, n]`. -/
theorem reference_apply (x : FVec Ideal S4x2x12x2048 .f32) (Y : FVec Ideal S4x2048x2048 .f32)
    (b : Fin 4) (c : Fin 2) (f : Fin 12) (n : Fin 2048) :
    (Host.dotGeneral dot_S4x2x12x2048_S4x2048x2048_S4x2x12x2048_3_1_12_2_0_0 none x Y (ix4 b c f n) : EReal)
      = ∑ k : Fin 2048, (x (ix4 b c f k) * Y (ix3 b k n) : EReal) := by
  pointwise

end Cert.Proof.Mix

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Array
public import proofs.«01_k».proof.Proof.RefValue
public import Idealize.ShloMosaic.Adequacy
public import Idealize.ShloMosaic.Lib.Quiescent
public import Idealize.ShloMosaic.Init

@[expose] public section

noncomputable section

namespace Cert.Proof

open Idealize.ShloMosaic Idealize.SL.Sem

/-- THE EQUATION: the kernel's reshaped product is the reference's product. -/
theorem result_eq (Y : FVec Ideal Cert.KernelIdeal.S4x2048x2048 .f32) (x : FVec Ideal Cert.KernelIdeal.S4x2x12x2048 .f32) :
    Host.dotGeneral Cert.ReferenceIdeal.dot_S4x2x12x2048_S4x2048x2048_S4x2x12x2048_3_1_12_2_0_0 none x Y
      = shapeCast Cert.KernelIdeal.S4x2x12x2048 (Mix.product Y x) Cert.KernelIdeal.Facts₀.shapeCasts_S4x24x2048_S4x2x12x2048 := by
  funext i
  idx_vars i
  exact (Mix.reference_apply x Y i0 i1 i2 i3).trans (Mix.product_split_apply Y x i0 i1 i2 i3).symm

/-- The value claim: kernel and reference compute the same function over the extended reals. -/
theorem algebraic : Cert.algebraic_KernelIdeal_ReferenceIdeal := by
  intro m g m' g' _ hagree
  refine ⟨_, Mix.run m g, (θ_run _ _ _).mono (fun r h c => ?_) (Cert.ReferenceIdeal.Value.run m' g')⟩
  refine ⟨(h c).1.trans ?_, (h c).2⟩
  rw [(hagree c).1, (hagree c).2]
  exact result_eq _ _

/-- The reference's frame: its run without the value; it declares no semaphore, so every counter reads zero. -/
theorem reference_frame : Cert.quiescent_ReferenceIdeal := fun m ρ _ =>
  (θ_run _ _ _).mono (fun r h => ⟨fun c => (h c).2, sem_eq_zero_of_no_sems rfl r.2⟩) (Cert.ReferenceIdeal.Value.run m ρ)

/-- Every claim of the certificate: the three frames, the empty rewriting of the kernel, and the value claim. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    reference_frame,
    trivial, algebraic⟩

end Cert.Proof

end
